-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indicator [hPre_indicator : Cert.Pre_indicator.Facts] (m : (ℓ : Loc Cert.KernelIdeal.nD Cert.KernelIdeal.τ Cert.KernelIdeal.sig) → Buf (Elt Ideal) ℓ) : Prop :=
  ∀ c : Dev Cert.KernelIdeal.nD,
    (Cert.Pre_indicator.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indicator [hPre_indicator : Cert.Pre_indicator.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indicator.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_indicator [hKernelIdeal : Cert.KernelIdeal.Facts] [hPre_indicator : Cert.Pre_indicator.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indicator m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indicator [hReferenceIdeal : Cert.ReferenceIdeal.Facts] [hPre_indicator : Cert.Pre_indicator.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indicator m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_indicator [hKernelIdeal : Cert.KernelIdeal.Facts] [hReferenceIdeal : Cert.ReferenceIdeal.Facts] [hPre_indicator : Cert.Pre_indicator.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indicator m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indicator : Cert.Pre_indicator.Facts),
    quiescent_Kernel (hKernel := hKernel)
    ∧ quiescent_KernelIdeal (hKernelIdeal := hKernelIdeal)
    ∧ quiescent_KernelIdeal_pre_indicator (hKernelIdeal := hKernelIdeal) (hPre_indicator := hPre_indicator)
    ∧ quiescent_ReferenceIdeal (hReferenceIdeal := hReferenceIdeal)
    ∧ quiescent_ReferenceIdeal_pre_indicator (hReferenceIdeal := hReferenceIdeal) (hPre_indicator := hPre_indicator)
    ∧ preserves_Kernel_KernelIdeal
    ∧ algebraic_KernelIdeal_ReferenceIdeal_pre_indicator (hKernelIdeal := hKernelIdeal) (hReferenceIdeal := hReferenceIdeal) (hPre_indicator := hPre_indicator)
-- ==== Pre_indicator.lean ====
abbrev S1024x100000 : Shape := ⟨2, ![1024, 100000]⟩
abbrev S100000x16 : Shape := ⟨2, ![100000, 16]⟩
abbrev S100000x1 : Shape := ⟨2, ![100000, 1]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel

variable [Facts]

def fn {F : FTy → Type} [FloatOps F] (main_arg0 : IVec S1024x100000 32) (main_arg1 : FVec F S100000x16 .f32) (main_arg2 : FVec F S100000x1 .f32) (main_arg3 : FVec F S_ .f32) : IVec S_ 1 :=
  let main_c : IVec S_ 32 := constantI S_ 32 0#32
  let main_v0 : IVec S1024x100000 32 := broadcastInDim S1024x100000 ![] bcast_S_S1024x100000 main_c
  let main_v1 : IVec S1024x100000 1 := cmpi .eq main_arg0 main_v0
  let main_c_0 : IVec S_ 32 := constantI S_ 32 1#32
  let main_v2 : IVec S1024x100000 32 := broadcastInDim S1024x100000 ![] bcast_S_S1024x100000 main_c_0
  let main_v3 : IVec S1024x100000 1 := cmpi .eq main_arg0 main_v2
  let main_v4 : IVec S1024x100000 1 := ori main_v1 main_v3
  let main_c_1 : IVec S_ 1 := constantI S_ 1 1#1
  let main_v5 : IVec S_ 1 := (fun x v => Host.reduce IntOp.andi x v reducesTo_S1024x100000_S_d0_1 h_S_) main_v4 main_c_1
  main_v5
-- ==== Kernel.lean ====
abbrev S1024x100000 : Shape := ⟨2, ![1024, 100000]⟩
abbrev S100000x16 : Shape := ⟨2, ![100000, 16]⟩
abbrev S100000x1 : Shape := ⟨2, ![100000, 1]⟩
abbrev S_ : Shape := ⟨0, ![]⟩
abbrev S1024x1 : Shape := ⟨2, ![1024, 1]⟩
abbrev S1024x4096 : Shape := ⟨2, ![1024, 4096]⟩
abbrev S4096x16 : Shape := ⟨2, ![4096, 16]⟩
abbrev S4096x1 : Shape := ⟨2, ![4096, 1]⟩
abbrev S1024x18 : Shape := ⟨2, ![1024, 18]⟩
abbrev S4096 : Shape := ⟨1, ![4096]⟩
abbrev S4096x18 : Shape := ⟨2, ![4096, 18]⟩
abbrev S1024x16 : Shape := ⟨2, ![1024, 16]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S1024x100000, .i32⟩
  | .hbm, ⟨1, _⟩ => ⟨S100000x16, .f32⟩
  | .hbm, ⟨2, _⟩ => ⟨S100000x1, .f32⟩
  | .hbm, ⟨3, _⟩ => ⟨S_, .f32⟩
  | .hbm, ⟨4, _⟩ => ⟨S1024x1, .f32⟩
  | .hbm, ⟨5, _⟩ => ⟨S1024x1, .f32⟩
  | .hbm, ⟨6, _⟩ => ⟨S1024x1, .f32⟩
  | .local _ .vmem, ⟨0, _⟩ => ⟨S1024x4096, .i32⟩
  | .local _ .vmem, ⟨1, _⟩ => ⟨S1024x4096, .i32⟩
  | .local _ .vmem, ⟨2, _⟩ => ⟨S4096x16, .f32⟩
  | .local _ .vmem, ⟨3, _⟩ => ⟨S4096x16, .f32⟩
  | .local _ .vmem, ⟨4, _⟩ => ⟨S4096x1, .f32⟩
  | .local _ .vmem, ⟨5, _⟩ => ⟨S4096x1, .f32⟩
  | .local _ .vmem, ⟨6, _⟩ => ⟨S1024x1, .f32⟩
  | .local _ .vmem, ⟨7, _⟩ => ⟨S1024x18, .f32⟩
  | _, _ => ⟨S1024x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x100000 : Shape := ⟨2, ![1024, 100000]⟩
abbrev S100000x16 : Shape := ⟨2, ![100000, 16]⟩
abbrev S100000x1 : Shape := ⟨2, ![100000, 1]⟩
abbrev S_ : Shape := ⟨0, ![]⟩
abbrev S1024x16 : Shape := ⟨2, ![1024, 16]⟩
abbrev S1024 : Shape := ⟨1, ![1024]⟩
abbrev S100000 : Shape := ⟨1, ![100000]⟩
abbrev S1024x1 : Shape := ⟨2, ![1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S1024x100000, .i32⟩
  | .hbm, ⟨1, _⟩ => ⟨S100000x16, .f32⟩
  | .hbm, ⟨2, _⟩ => ⟨S100000x1, .f32⟩
  | .hbm, ⟨3, _⟩ => ⟨S_, .f32⟩
  | .hbm, ⟨4, _⟩ => ⟨S_, .i32⟩
  | .hbm, ⟨5, _⟩ => ⟨S1024x100000, .i32⟩
  | .hbm, ⟨6, _⟩ => ⟨S1024x100000, .i1⟩
  | .hbm, ⟨7, _⟩ => ⟨S1024x100000, .f32⟩
  | .hbm, ⟨8, _⟩ => ⟨S1024x16, .f32⟩
  | .hbm, ⟨9, _⟩ => ⟨S1024x16, .f32⟩
  | .hbm, ⟨10, _⟩ => ⟨S_, .f32⟩
  | .hbm, ⟨11, _⟩ => ⟨S1024, .f32⟩
  | .hbm, ⟨12, _⟩ => ⟨S100000x16, .f32⟩
  | .hbm, ⟨13, _⟩ => ⟨S_, .f32⟩
  | .hbm, ⟨14, _⟩ => ⟨S100000, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S1024x1, .f32⟩
  | .hbm, ⟨24, _⟩ => ⟨S1024x1, .f32⟩
  | _, _ => ⟨S1024x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Whole.lean ====
module

public import Idealize.ShloMosaic.Lib.Pipeline.Value

/-! Loads and stores that take a whole buffer. -/

@[expose] public section

noncomputable section

namespace Cert.Whole

open Idealize.ShloMosaic

variable {sig : RefSig} {F : FTy → Type} [FloatOps F]

variable {sp : Space} {S : Shape} {e : EltTy}

/-- A load of a whole buffer reads the buffer's contents. -/
theorem readAt_full (v : View sig .tc sp S e) (f : v.ty.Contents (Elt F)) {off : Fin S.rank → Nat}
    (h : off = fun _ => 0) (inb : ∀ a, off a + S.size a ≤ S.size a) :
    v.readAt (Elt F) (Rect.unit (s := S) off S.size inb).toLoadRect f = v.read (Elt F) f :=
  (View.readAt_eq_ld v f _).trans (View.ld_unit_zero h inb _)

/-- After a store of a whole buffer, the buffer's contents are the stored ones. -/
theorem read_full (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit (s := S) off S.size inb, w⟩ :: L)) = w := by
  rw [View.read_writes_eq_canon v f _ fun y => ⟨_, List.mem_cons_self, View.mem_set_unit_zero h inb y⟩,
    View.canon_cons_unit_zero h inb w]

/-- A load of a whole buffer after a store of it reads the stored contents. -/
theorem readCov_full (v : View sig .tc sp S e) {off : Fin S.rank → Nat} (h : off = fun _ => 0)
    (inb : ∀ a, off a + S.size a ≤ S.size a) (w : S.Idx → Elt F e) (L : List (View.Piece (Elt F) S e)) :
    v.readCov (⟨Rect.unit (s := S) off S.size inb, w⟩ :: L) (Rect.unit (s := S) off S.size inb).toLoadRect = w :=
  View.readCov_cons_toLoadRect v (Rect.unit (s := S) off S.size inb) w L

/-- The offsets of every access of the body are zero. -/
theorem off_zero : (![0, 0] : Fin 2 → Nat) = fun _ => 0 := funext fun a => by fin_cases a <;> rfl

end Cert.Whole

end
-- ==== Proof.Body.lean ====
module

public import proofs.«01_k».proof.Proof.Gen.KernelIdeal.Launch
public import proofs.«01_k».proof.Proof.Gen.KernelIdeal.Skeleton
public import proofs.«01_k».proof.Proof.Whole
public import Idealize.ShloMosaic.Lib.Tactic

/-! What one run of the kernel's body does to its five buffers, for any float operations. -/

@[expose] public section

noncomputable section

namespace Cert.KernelIdeal.Hand

open Cert.KernelIdeal Cert.KernelIdeal.Gen Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body clears its accumulator: the grid coordinate is zero. -/
def first (i : grid0.Coords) : Prop :=
  Scalar.cmpi .ne (Scalar.extui (Scalar.cmpi .eq (BitVec.ofNat 32 (i 0).val) 0#32) : BitVec 32) 0#32 = 1#1

instance (i : grid0.Coords) : Decidable (first i) := by unfold first; infer_instance

/-- What the accumulator holds after the body at grid coordinate `i`, from the three blocks and what it held before. -/
def next (i : grid0.Coords) (X0 : Vec F S1024x4096 .i32) (X1 : Vec F S4096x16 .f32) (X2 : Vec F S4096x1 .f32)
    (a : Vec F S1024x18 .f32) : Vec F S1024x18 .f32 :=
  k0_pay2 i X0 X1 X2 (if first i then k0_pay1 else a)

/-- What the result's buffer holds after the body: the finished value at the last coordinate, what it held elsewhere. -/
def result (i : grid0.Coords) (a : Vec F S1024x18 .f32) (y : Vec F S1024x1 .f32) : Vec F S1024x1 .f32 :=
  if k0_cond2 i = 1#1 then k0_pay3 a else y

/-- The body at grid coordinate `i`, from its five buffers held whole: it leaves the three inputs' as they were, the
    accumulator at `next` and the result's at `result`. -/
theorem sound_body (c : Dev nD) (E : Set ℕ) (i : grid0.Coords)
    (arg1 : Memref sig .tc .vmem S1024x4096 .i32) (h1 : arg1.IsWhole)
    (arg2 : Memref sig .tc .vmem S4096x16 .f32) (h2 : arg2.IsWhole)
    (arg3 : Memref sig .tc .vmem S4096x1 .f32) (h3 : arg3.IsWhole)
    (arg4 : Memref sig .tc .vmem S1024x1 .f32) (h4 : arg4.IsWhole)
    (arg5 : Memref sig .tc .vmem S1024x18 .f32) (h5 : arg5.IsWhole)
    (X0 : Vec F S1024x4096 .i32) (X1 : Vec F S4096x16 .f32) (X2 : Vec F S4096x1 .f32)
    (y : Vec F S1024x1 .f32) (a : Vec F S1024x18 .f32) (K : PUnit → sProp 𝕄) :
    iprop((owns (c : Thread nD τ) arg1 fullShare X0 ∗ owns (c : Thread nD τ) arg2 fullShare X1
            ∗ owns (c : Thread nD τ) arg3 fullShare X2 ∗ owns (c : Thread nD τ) arg4 fullShare y
            ∗ owns (c : Thread nD τ) arg5 fullShare a)
          ∗ (iprop(owns (c : Thread nD τ) arg1 fullShare X0 ∗ owns (c : Thread nD τ) arg2 fullShare X1
            ∗ owns (c : Thread nD τ) arg3 fullShare X2 ∗ owns (c : Thread nD τ) arg4 fullShare (result i (next i X0 X1 X2 a) y)
            ∗ owns (c : Thread nD τ) arg5 fullShare (next i X0 X1 X2 a)) -∗ K ⟨⟩))
      ⊢ wp frame (wpE (defs₀ (F := F)) Variants.none c none) E
          (cc0__fm_kernel i arg1 h1 arg2 h2 arg3 h3 arg4 h4 arg5 h5) K := by
  rw [cc0__fm_kernel_eq_skeleton]
  unfold cc0__fm_kernel_skel owns
  iintro ⟨⟨⟨%f1, %hf1, H1⟩, ⟨%f2, %hf2, H2⟩, ⟨%f3, %hf3, H3⟩, ⟨%f4, %hf4, H4⟩, ⟨%f5, %hf5, H5⟩⟩, Hk⟩
  subst hf1 hf2 hf3 hf4 hf5
  by_cases hc1 : first i <;> by_cases hc2 : k0_cond2 i = 1#1
  · have hc1' := hc1
    unfold first at hc1'
    sl_exec
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]
    · iexists _; isplitr; swap; · iexact H4
      ipureintro
      rw [read_full _ _ off_zero, result, if_pos hc2, next, if_pos hc1]
      unfold sound_body.sl.v30 sound_body.sl.H5_2 sound_body.sl.v21 sound_body.sl.H5_1; rw [readCov_full _ off_zero, readCov_full _ off_zero, readAt_full _ _ off_zero, readAt_full _ _ off_zero, readAt_full _ _ off_zero]
    · iexists _; isplitr; swap; · iexact H5
      ipureintro
      rw [next, if_pos hc1]
      unfold sound_body.sl.H5_2 sound_body.sl.v21 sound_body.sl.H5_1; rw [read_full _ _ off_zero, readCov_full _ off_zero, readAt_full _ _ off_zero, readAt_full _ _ off_zero, readAt_full _ _ off_zero]
  · have hc1' := hc1
    unfold first at hc1'
    sl_exec
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]
    · iexists _; isplitr; swap; · iexact H4
      ipureintro
      rw [result, if_neg hc2]
    · iexists _; isplitr; swap; · iexact H5
      ipureintro
      rw [next, if_pos hc1]
      unfold sound_body.sl.v21_1 sound_body.sl.H5_1_1; rw [read_full _ _ off_zero, readCov_full _ off_zero, readAt_full _ _ off_zero, readAt_full _ _ off_zero, readAt_full _ _ off_zero]
  · have hc1' := hc1
    unfold first at hc1'
    sl_exec
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]
    · iexists _; isplitr; swap; · iexact H4
      ipureintro
      rw [read_full _ _ off_zero, result, if_pos hc2, next, if_neg hc1]
      unfold sound_body.sl.v30_1 sound_body.sl.H5_1_2; rw [readCov_full _ off_zero, readAt_full _ _ off_zero, readAt_full _ _ off_zero, readAt_full _ _ off_zero, readAt_full _ _ off_zero]
    · iexists _; isplitr; swap; · iexact H5
      ipureintro
      rw [next, if_neg hc1]
      unfold sound_body.sl.H5_1_2; rw [read_full _ _ off_zero, readAt_full _ _ off_zero, readAt_full _ _ off_zero, readAt_full _ _ off_zero, readAt_full _ _ off_zero]
  · have hc1' := hc1
    unfold first at hc1'
    sl_exec
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]
    · iexists _; isplitr; swap; · iexact H4
      ipureintro
      rw [result, if_neg hc2]
    · iexists _; isplitr; swap; · iexact H5
      ipureintro
      rw [next, if_neg hc1]
      rw [read_full _ _ off_zero, readAt_full _ _ off_zero, readAt_full _ _ off_zero, readAt_full _ _ off_zero, readAt_full _ _ off_zero]

end Cert.KernelIdeal.Hand

end
-- ==== Proof.Frame.lean ====
module

public import proofs.«01_k».proof.Proof.Gen.KernelIdeal.Frame
public import proofs.«01_k».proof.Proof.Body

/-! The kernel's run for any float operations: it ends, keeps its arguments and leaves every counter at zero. -/

@[expose] public section

noncomputable section

namespace Cert.KernelIdeal.Frame

open Cert.KernelIdeal Cert.KernelIdeal.Gen Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays at their launch contents; after the body each input's buffer at the block it was
    fetched with; the accumulator and the generator's register at anything. -/
def dats (_ : Fin 1) (c : Dev nD) : Dat τ (Elt F) Unit ℕ (UR sig nD τ) ℕ cfg0 c where
  A w := V m c (Pipeline.arrRef spec0 w)
  after w t := (cfg0.win w).fill (grid0.coords t) (fun _ => Classical.arbitrary _) (iblk m c w t)
  Φ _ := ΦA spec0 c
  q _ := fullShare
  owed _ := 0

/-- The result's window, about whose contents this frame says nothing. -/
def forgets (w : Fin 4) : Bool := match w with
  | 3 => true
  | _ => false

/-- What the body finds in the samples' buffer, whatever the proof data say of the other buffers: the block just
    fetched, and anything past the array's end. -/
theorem found_0 {c : Dev nD} (D : Dat τ (Elt F) Unit ℕ (UR sig nD τ) ℕ cfg0 c) (hA : D.A (0 : Fin 4) = V m c (Pipeline.arrRef spec0 0))
    (t : Fin cfg0.N) (d) : D.before (0 : Fin 4) t d = win0_0.fill (grid0.coords t) d (iblk m c 0 t) := by
  unfold Dat.before Dat.fetched Dat.blockOf; rw [if_pos (fetch0_0 t), hA]; rfl
/-- The same of the embeddings' buffer. -/
theorem found_1 {c : Dev nD} (D : Dat τ (Elt F) Unit ℕ (UR sig nD τ) ℕ cfg0 c) (hA : D.A (1 : Fin 4) = V m c (Pipeline.arrRef spec0 1))
    (t : Fin cfg0.N) (d) : D.before (1 : Fin 4) t d = win0_1.fill (grid0.coords t) d (iblk m c 1 t) := by
  unfold Dat.before Dat.fetched Dat.blockOf; rw [if_pos (fetch0_1 t), hA]; rfl
/-- The same of the biases' buffer. -/
theorem found_2 {c : Dev nD} (D : Dat τ (Elt F) Unit ℕ (UR sig nD τ) ℕ cfg0 c) (hA : D.A (2 : Fin 4) = V m c (Pipeline.arrRef spec0 2))
    (t : Fin cfg0.N) (d) : D.before (2 : Fin 4) t d = win0_2.fill (grid0.coords t) d (iblk m c 2 t) := by
  unfold Dat.before Dat.fetched Dat.blockOf; rw [if_pos (fetch0_2 t), hA]; rfl

/-- The call the pipeline makes at point `t` is the body at that point's buffers. -/
theorem body_row (t : Fin cfg0.N) : defs₀ (F := F) .tc cfg0.body (cfg0.bodyArgs t (cfg0.slots t)) = bodyAt0 t := by
  unfold defs₀; rw [Defs.onTc_tc]

/-- The body at every grid point: each input's buffer comes back holding the block it was fetched with, and the
    accumulator, the generator's register and the result's buffer come back at some contents. -/
theorem body_obligation (c : Dev nD) :
    BodyObligationLoose (dats m 0 c) (defs₀ (F := F)) Variants.none () Set.univ forgets := fun t => by
  rw [bigSep_W0, bigSep_W0]
  simp only [forgets]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq, body_row]
  iintro ⟨⟨⟨%a, HS⟩, HP⟩, Ho, ⟨%d0, H0⟩, ⟨%d1, H1⟩, ⟨%d2, H2⟩, ⟨%y, H3⟩⟩
  rw [found_0 m (dats m 0 c) rfl t d0, found_1 m (dats m 0 c) rfl t d1, found_2 m (dats m 0 c) rfl t d2]
  iapply (sound_body (F := F) c Set.univ (grid0.coords t) _ _ _ _ _ _ _ _ (Memref.whole cc0_scratch0) (Memref.isWhole_whole _)
    (win0_0.fill (grid0.coords t) d0 (iblk m c 0 t)) (win0_1.fill (grid0.coords t) d1 (iblk m c 1 t))
    (win0_2.fill (grid0.coords t) d2 (iblk m c 2 t)) y a _)
  rw [owns_whole_eq]
  isplitl [H0 H1 H2 H3 HS]
  · isplitl [H0]; · iexact H0
    isplitl [H1]; · iexact H1
    isplitl [H2]; · iexact H2
    isplitl [H3]; · iexact H3
    iexists a; isplitr; · ipureintro; rfl
    iexact HS
  rw [owns_whole_eq]
  iintro ⟨H0, H1, H2, H3, ⟨%a', %ha, HS⟩⟩
  isplitl [HS HP]
  · isplitl [HS]
    · iexists a'; iexact HS
    iexact HP
  isplitl [Ho]; · iexact Ho
  isplitl [H0]
  · iexists d0
    change _ ⊢ owns (c : Thread nD τ) (stage0_0 (cfg0.slots t 0)) fullShare (win0_0.fill (grid0.coords t) d0 (win0_0.cut (grid0.coords t) (win0_0.fill (grid0.coords t) _ (iblk m c 0 t))))
    rw [win0_0.cut_fill]
  isplitl [H1]
  · iexists d1
    change _ ⊢ owns (c : Thread nD τ) (stage0_1 (cfg0.slots t 1)) fullShare (win0_1.fill (grid0.coords t) d1 (win0_1.cut (grid0.coords t) (win0_1.fill (grid0.coords t) _ (iblk m c 1 t))))
    rw [win0_1.cut_fill]
  isplitl [H2]
  · iexists d2
    change _ ⊢ owns (c : Thread nD τ) (stage0_2 (cfg0.slots t 2)) fullShare (win0_2.fill (grid0.coords t) d2 (win0_2.cut (grid0.coords t) (win0_2.fill (grid0.coords t) _ (iblk m c 2 t))))
    rw [win0_2.cut_fill]
  iexists _; iexact H3

/-- The buffers the lines after the kernel write. -/
def tailWrites : Finset (Ref sig .tc) := {main_call0_v1, main_v0}

/-- The lines after the kernel write no other buffer. -/
theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl <;>
  simp only [StableHlo.unary_writes, StableHlo.binary_writes, Finset.mem_singleton] at hb <;>
  · rw [Proc.devRef_injective .tc hb]; decide

/-- The kernel as lowered, for any float operations: every fair execution from any memory ends, with the four
    arguments as they were and every semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (dats m) 0 launch0 defs₀ Variants.none forgets tailWrites m ρ main
    (body_obligation m) (fun c => (dats m 0 c).share_full fun _ => rfl) (fun _ _ => rfl) (V0 m) [hostOps1] sfx_sub sfx_fresh
    sfx_keeps tail_writes (hmain m Variants.none) (fun _ _ => rfl) (fun _ _ => rfl) _
    (fun r h => ⟨fun c => ⟨h.1.arr_in c 0 rfl, h.1.arr_in c 1 rfl, h.1.arr_in c 2 rfl,
      (h.1 c).2 main_arg3 (Finset.mem_sdiff.mpr ⟨Pipeline.mem_restRefs_of main_arg3 (by decide) (by decide), by decide⟩)⟩, h.2⟩)

end Cert.KernelIdeal.Frame

end
-- ==== Proof.SameProgram.lean ====
module

public import proofs.«01_k».proof.Defs
public import proofs.«01_k».proof.Proof.Gen.Kernel
public import proofs.«01_k».proof.Proof.Frame

/-! The kernel read as float words is the program read as extended reals, with other float operations: the run proved
for any float operations is a run of both. -/

@[expose] public section

noncomputable section

namespace Cert.SameProgram

open Idealize.ShloMosaic Idealize.SL.Sem

/-- The two programs call the same body. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl

/-- The two programs define the same calls. -/
theorem calls_eq : @Cert.Kernel.defs Bits _ _ = @Cert.KernelIdeal.defs Bits _ _ :=
  congrArg (Pipeline.defs (Cert.Kernel.pcfgs (F := Bits))) bodies_eq

/-- The kernel in float words runs, keeps its arguments and leaves every counter at zero. -/
theorem frame_kernel : Cert.quiescent_Kernel := fun m g _ =>
  Eq.mpr (congrArg (fun d => θ_run d (onTc (τ := Cert.Kernel.τ) (Cert.Kernel.main (F := Bits))) ⟨m, fun _ => 0, g⟩ _) calls_eq)
    (Cert.KernelIdeal.Frame.run (F := Bits) m g)

end Cert.SameProgram

end
-- ==== Proof.Block.lean ====
module

public import proofs.«01_k».proof.Proof.Body
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.Pipeline.Value

/-! What one run of the body computes on idealized numbers, entry by entry. -/

@[expose] public section

noncomputable section

namespace Cert.KernelIdeal.Hand

open Cert.KernelIdeal Cert.KernelIdeal.Gen
open Idealize.ShloMosaic Idealize.ShloMosaic.TcCoe
open Idealize.ShloMosaic.ValueIdx
open scoped BigOperators

/-- The eighteen numbers a table row contributes for each sample that selects it: its sixteen embedding entries, the sum
    of their squares, and its bias. -/
def weight (e : Fin 16 → EReal) (b : EReal) (j : Fin 18) : EReal :=
  if h : j.val < 16 then e ⟨j.val, h⟩ else if j.val = 16 then ∑ k, e k * e k else b

/-- A matrix of sixteen columns, the sums of its rows' squares, and a column, laid side by side: row by row, the
    weights of that row. -/
theorem sideBySide (v5 : FVec Ideal S4096x16 .f32) (v6 : FVec Ideal S4096x1 .f32) (r : Fin 4096) (j : Fin 18) :
    concatenate S4096x18 1 [⟨S4096x16, v5⟩,
      ⟨S4096x1, shapeCast S4096x1 (multiReduction (F := Ideal) .add [1] S4096 (mulf v5 v5) 0x00000000#32 reduces_S4096x16_S4096 (.inl rfl) rfl) shapeCasts_S4096_S4096x1⟩,
      ⟨S4096x1, v6⟩] concatenates_S4096x16_S4096x1_S4096x1_S4096x18_d1 (ix2 r j)
      = weight (fun k => v5 (ix2 r k)) (v6 (ix2 r 0)) j := by
  have hsq : shapeCast S4096x1 (multiReduction (F := Ideal) .add [1] S4096 (mulf v5 v5) 0x00000000#32 reduces_S4096x16_S4096 (.inl rfl) rfl) shapeCasts_S4096_S4096x1 (ix2 r 0)
      = ∑ k : Fin 16, v5 (ix2 r k) * v5 (ix2 r k) := by
    refine (shapeCast_a_a1_apply _ shapeCasts_S4096_S4096x1 r 0).trans ?_
    refine (Ideal.multiReduction_add_single _ _ reduces_S4096x16_S4096 (.inl rfl) rfl (ix1 r)).trans ?_
    refine Finset.sum_congr rfl fun k _ => ?_
    have : reduces_S4096x16_S4096.lift (ix1 r) k = ix2 r k := by
      funext c; apply Fin.ext
      match c with
      | ⟨0, _⟩ => rfl
      | ⟨1, _⟩ => rfl
    rw [this]; rfl
  unfold weight
  by_cases h : j.val < 16
  · rw [dif_pos h]
    obtain ⟨n, hn⟩ := j
    change n < 16 at h
    interval_cases n <;> exact congrArg v5 (eq_ix2 _)
  · rw [dif_neg h]
    by_cases h' : j.val = 16
    · rw [if_pos h', ← hsq]
      obtain rfl : j = (⟨16, Nat.lt_of_sub_pos Nat.two_pos⟩ : Fin 18) := Fin.ext h'
      generalize shapeCast S4096x1 (multiReduction (F := Ideal) .add [1] S4096 (mulf v5 v5) 0x00000000#32 reduces_S4096x16_S4096 (.inl rfl) rfl) shapeCasts_S4096_S4096x1 = y
      exact congrArg y (eq_ix2 _)
    · rw [if_neg h']
      have h17 : j.val = 17 := by have := j.isLt; omega
      obtain rfl : j = (⟨17, Nat.lt_of_sub_pos Nat.one_pos⟩ : Fin 18) := Fin.ext h17
      exact congrArg v6 (eq_ix2 _)

/-- The mask of a block's rows: row `r` of block `n` is kept when it is one of the table's hundred thousand. -/
theorem mask_row (n r : ℕ) (hn : n < 25) (hr : r < 4096) :
    IntOp.cmpi .slt (BitVec.ofNat 32 r + BitVec.ofNat 32 n * 4096#32) 100000#32 = if 4096 * n + r < 100000 then 1#1 else 0#1 := by
  have e : BitVec.ofNat 32 r + BitVec.ofNat 32 n * 4096#32 = BitVec.ofNat 32 (4096 * n + r) := by
    apply BitVec.eq_of_toNat_eq
    simp only [BitVec.toNat_add, BitVec.toNat_mul, BitVec.toNat_ofNat]
    omega
  have hs : (BitVec.ofNat 32 (4096 * n + r)).slt 100000#32 = decide (4096 * n + r < 100000) := by
    rw [BitVec.slt_eq_decide, show ∀ k : ℕ, (BitVec.ofNat 32 k).toInt = Int.bmod k (2 ^ 32) from fun k => BitVec.toInt_ofNat .., Int.bmod_eq_of_le (by omega) (by omega)]
    exact decide_eq_decide.mpr (by
      rw [show (100000#32 : BitVec 32).toInt = 100000 from rfl]; omega)
  rw [e]
  simp only [IntOp.cmpi, hs]
  by_cases h : 4096 * n + r < 100000
  · rw [if_pos h, decide_eq_true h]; rfl
  · rw [if_neg h, decide_eq_false h]; rfl

/-- The value the body clears the accumulator with is zero everywhere. -/
theorem pay1_apply (y : S1024x18.Idx) : (k0_pay1 : FVec Ideal S1024x18 .f32) y = 0 := by
  unfold k0_pay1
  exact (congrFun (shapeCast_self _ _) y).trans Ideal.ofBits_zero_f32

/-- The result the body stores, entry by entry, from the accumulator. -/
theorem pay3_apply (a : Vec Ideal S1024x18 .f32) (b : Fin 1024) :
    k0_pay3 (F := Ideal) a (ix2 b 0) = a (ix2 b 17) + Ideal.ofBits .f32 0x3F000000#32 *
      (∑ k : Fin 16, a (ix2 b (k.castLE (by decide))) * a (ix2 b (k.castLE (by decide))) - a (ix2 b 16)) := by
  unfold k0_pay3
  simp only
  rw [addf_apply, mulf_apply, subf_apply, broadcast_apply,
    slice2_axis1_apply 17 a slices_S1024x18_o0_17_S1024x1 b 0 17 rfl, slice2_axis1_apply 16 a slices_S1024x18_o0_16_S1024x1 b 0 16 rfl]
  refine congrArg (fun x => a (ix2 b 17) + Ideal.ofBits .f32 0x3F000000#32 * (x - a (ix2 b 16))) ?_
  refine (shapeCast_a_a1_apply _ shapeCasts_S1024_S1024x1 b 0).trans ?_
  refine (Ideal.multiReduction_add_single _ _ reduces_S1024x16_S1024 (.inl rfl) rfl (ix1 b)).trans ?_
  refine Finset.sum_congr rfl fun (k : Fin 16) _ => ?_
  have hl : reduces_S1024x16_S1024.lift (ix1 b) k = ix2 b k := by
    funext c; apply Fin.ext
    match c with
    | ⟨0, _⟩ => rfl
    | ⟨1, _⟩ => rfl
  have hs := slice2_axis1_apply 0 a slices_S1024x18_o0_0_S1024x16 b k (k.castLE (by decide)) (Nat.zero_add _).symm
  exact (congrArg _ hl).trans (congrArg₂ (fun x y : EReal => x * y) hs hs)

/-- What the body adds to the accumulator, entry by entry: over the block's rows, the sample's number at the row times
    the row's weight, rows past the table's end counting for nothing. -/
theorem pay2_apply (i : grid0.Coords) (X0 : Vec Ideal S1024x4096 .i32) (X1 : Vec Ideal S4096x16 .f32) (X2 : Vec Ideal S4096x1 .f32)
    (a : Vec Ideal S1024x18 .f32) (b : Fin 1024) (j : Fin 18) :
    k0_pay2 (F := Ideal) i X0 X1 X2 a (ix2 b j) = a (ix2 b j) + ∑ r : Fin 4096, FloatOps.sitofp (F := Ideal) .f32 (X0 (ix2 b r)) *
      (if 4096 * (i 0).val + r.val < 100000 then weight (fun k => X1 (ix2 r k)) (X2 (ix2 r 0)) j else 0) := by
  unfold k0_pay2
  simp only
  rw [shapeCast_self, addf_apply]
  refine congrArg (a (ix2 b j) + ·) ?_
  simp only [matmul]
  refine (Ideal.matmul_plain_apply (M := 1024) (K := 4096) (N := 18) none _ _ _ b j).trans ?_
  rw [constant_apply, Ideal.ofBits_zero_f32, zero_add]
  refine Finset.sum_congr rfl fun r _ => ?_
  refine congrArg (FloatOps.sitofp (F := Ideal) .f32 (X0 (ix2 b r)) * ·) ?_
  rw [select_apply, sideBySide, shapeCast_self]
  rw [broadcastTo_apply _ _ (ix2 r j) (ix2 r 0) (fun a => by
    match a with
    | ⟨0, _⟩ => rfl
    | ⟨1, _⟩ => rfl)]
  have hm : cmpi .slt (addi (iota .tc S4096x1 32 [0] iota_S4096x1_d0_w32) (broadcast S4096x1 (Scalar.muli (BitVec.ofNat 32 (i 0).val) 4096#32)))
      (broadcast S4096x1 100000#32) (ix2 r 0) = if 4096 * (i 0).val + r.val < 100000 then 1#1 else 0#1 := by
    rw [← mask_row (i 0).val r.val (i 0).isLt r.isLt]
    change IntOp.cmpi .slt (iota .tc S4096x1 32 [0] iota_S4096x1_d0_w32 (ix2 r 0) + _) _ = _
    rw [iota_single_apply]; rfl
  rw [hm]
  by_cases h : 4096 * (i 0).val + r.val < 100000
  · rw [if_pos h, if_pos h, select_one]
  · rw [if_neg h, if_neg h, select_zero, broadcast_apply]
    exact Ideal.ofBits_zero_f32

end Cert.KernelIdeal.Hand

end
-- ==== Proof.Blocks.lean ====
module

public import proofs.«01_k».proof.Proof.Gen.KernelIdeal.Frame
public import proofs.«01_k».proof.Proof.Block

/-! What the accumulator holds after every grid point: the sums over the table rows seen so far. -/

@[expose] public section

noncomputable section

namespace Cert.KernelIdeal.Hand

open Cert.KernelIdeal Cert.KernelIdeal.Gen
open Idealize.ShloMosaic Idealize.ShloMosaic.TcCoe
open Idealize.ShloMosaic.ValueIdx
open scoped BigOperators

/-- A coordinate of a block that lies inside the array is one of those a transfer cut at the array's end moves. -/
theorem inside_extent (o k d j : ℕ) (hk : j < k) (hd : o * k + j < d) : j < (Pipeline.Clip.of o k d).extent k := by
  unfold Pipeline.Clip.of
  split
  · exact hk
  · change j < d - o * k; omega

/-- The grid coordinate of point `t` is `t`, also as the number a block's place is computed from. -/
theorem coord (t : Fin cfg0.N) : (grid0.coords t 0).val = t.val ∧ (BitVec.ofNat 32 (grid0.coords t 0).val).toNat = t.val :=
  (by decide : ∀ t : Fin grid0.N, (grid0.coords t 0).val = t.val ∧ (BitVec.ofNat 32 (grid0.coords t 0).val).toNat = t.val) t

variable (m : (ℓ : Loc nD τ sig) → Buf (Elt Ideal) ℓ)

/-- The samples' block at point `t` reads, at an entry whose table row exists, the samples' array at that row. -/
theorem fill_0 (c : Dev nD) (t : Fin cfg0.N) (d : Vec Ideal S1024x4096 .i32) (b : Fin 1024) (r : Fin 4096)
    (h : 4096 * t.val + r.val < 100000) :
    win0_0.fill (grid0.coords t) d (iblk m c 0 t) (ix2 b r) = m ((c : Thread nD τ).loc main_arg0) (ix2 b ⟨4096 * t.val + r.val, h⟩) := by
  unfold Pipeline.Window.fill
  rw [dif_pos ((win0_0.moved_iff _ _).mpr fun a => by
    match a with
    | ⟨0, _⟩ => exact inside_extent 0 1024 1024 b.val b.isLt (by omega)
    | ⟨1, _⟩ => exact inside_extent (BitVec.ofNat 32 (grid0.coords t 0).val).toNat 4096 100000 r.val r.isLt (by rw [(coord t).2]; omega))]
  change m ((c : Thread nD τ).loc main_arg0) _ = _
  refine congrArg (m ((c : Thread nD τ).loc main_arg0)) (funext fun a => Fin.ext ?_)
  match a with
  | ⟨0, _⟩ => change 0 * 1024 + 1 * b.val = b.val; omega
  | ⟨1, _⟩ => change (BitVec.ofNat 32 (grid0.coords t 0).val).toNat * 4096 + 1 * r.val = 4096 * t.val + r.val; rw [(coord t).2]; omega

/-- The embeddings' block at point `t` reads, at a row the table has, the table at that row. -/
theorem fill_1 (c : Dev nD) (t : Fin cfg0.N) (d : Vec Ideal S4096x16 .f32) (r : Fin 4096) (k : Fin 16)
    (h : 4096 * t.val + r.val < 100000) :
    win0_1.fill (grid0.coords t) d (iblk m c 1 t) (ix2 r k) = m ((c : Thread nD τ).loc main_arg1) (ix2 ⟨4096 * t.val + r.val, h⟩ k) := by
  unfold Pipeline.Window.fill
  rw [dif_pos ((win0_1.moved_iff _ _).mpr fun a => by
    match a with
    | ⟨0, _⟩ => exact inside_extent (BitVec.ofNat 32 (grid0.coords t 0).val).toNat 4096 100000 r.val r.isLt (by rw [(coord t).2]; omega)
    | ⟨1, _⟩ => exact inside_extent 0 16 16 k.val k.isLt (by omega))]
  change m ((c : Thread nD τ).loc main_arg1) _ = _
  refine congrArg (m ((c : Thread nD τ).loc main_arg1)) (funext fun a => Fin.ext ?_)
  match a with
  | ⟨0, _⟩ => change (BitVec.ofNat 32 (grid0.coords t 0).val).toNat * 4096 + 1 * r.val = 4096 * t.val + r.val; rw [(coord t).2]; omega
  | ⟨1, _⟩ => change 0 * 16 + 1 * k.val = k.val; omega

/-- The biases' block at point `t` reads, at a row the table has, the biases at that row. -/
theorem fill_2 (c : Dev nD) (t : Fin cfg0.N) (d : Vec Ideal S4096x1 .f32) (r : Fin 4096)
    (h : 4096 * t.val + r.val < 100000) :
    win0_2.fill (grid0.coords t) d (iblk m c 2 t) (ix2 r 0) = m ((c : Thread nD τ).loc main_arg2) (ix2 ⟨4096 * t.val + r.val, h⟩ 0) := by
  unfold Pipeline.Window.fill
  rw [dif_pos ((win0_2.moved_iff _ _).mpr fun a => by
    match a with
    | ⟨0, _⟩ => exact inside_extent (BitVec.ofNat 32 (grid0.coords t 0).val).toNat 4096 100000 r.val r.isLt (by rw [(coord t).2]; omega)
    | ⟨1, _⟩ => exact inside_extent 0 1 1 0 (by omega) (by omega))]
  change m ((c : Thread nD τ).loc main_arg2) _ = _
  refine congrArg (m ((c : Thread nD τ).loc main_arg2)) (funext fun a => Fin.ext ?_)
  match a with
  | ⟨0, _⟩ => change (BitVec.ofNat 32 (grid0.coords t 0).val).toNat * 4096 + 1 * r.val = 4096 * t.val + r.val; rw [(coord t).2]; omega
  | ⟨1, _⟩ => rfl

/-- What table row `v` contributes to entry `(b, j)` of the sums: sample `b`'s number at the row times the row's
    weight `j`, and nothing for a row the table does not have. -/
def part (X : Vec Ideal S1024x100000 .i32) (E : Vec Ideal S100000x16 .f32) (B : Vec Ideal S100000x1 .f32)
    (b : Fin 1024) (j : Fin 18) (v : ℕ) : EReal :=
  if h : v < 100000 then FloatOps.sitofp (F := Ideal) .f32 (X (ix2 b ⟨v, h⟩)) * weight (fun k => E (ix2 ⟨v, h⟩ k)) (B (ix2 ⟨v, h⟩ 0)) j else 0

/-- The accumulator after `n` grid points: entry by entry, the contributions of the first `4096 n` rows. -/
def sums (c : Dev nD) (n : ℕ) : Vec Ideal S1024x18 .f32 := fun y => ∑ v ∈ Finset.range (4096 * n),
  part (m ((c : Thread nD τ).loc main_arg0)) (m ((c : Thread nD τ).loc main_arg1)) (m ((c : Thread nD τ).loc main_arg2)) (y 0) (y 1) v

/-- The body clears the accumulator at the first point and at no other. -/
theorem first_iff (t : Fin cfg0.N) : first (grid0.coords t) ↔ t.val = 0 :=
  (by decide : ∀ t : Fin grid0.N, first (grid0.coords t) ↔ t.val = 0) t

/-- One point's step: from the sums after `t` points (or anything at the first point) the body makes the sums after
    `t + 1`, whatever the input buffers hold past the arrays' ends. -/
theorem next_eq (c : Dev nD) (t : Fin cfg0.N) (d0 : Vec Ideal S1024x4096 .i32) (d1 : Vec Ideal S4096x16 .f32)
    (d2 : Vec Ideal S4096x1 .f32) (a : Vec Ideal S1024x18 .f32) (ha : t.val ≠ 0 → a = sums m c t.val) :
    next (F := Ideal) (grid0.coords t) (win0_0.fill (grid0.coords t) d0 (iblk m c 0 t)) (win0_1.fill (grid0.coords t) d1 (iblk m c 1 t))
      (win0_2.fill (grid0.coords t) d2 (iblk m c 2 t)) a = sums m c (t.val + 1) := by
  funext y
  obtain ⟨b, j, rfl⟩ : ∃ (b : Fin 1024) (j : Fin 18), y = ix2 b j := ⟨y 0, y 1, eq_ix2 y⟩
  have hstart : (if first (grid0.coords t) then (k0_pay1 : FVec Ideal S1024x18 .f32) else a) (ix2 b j) = sums m c t.val (ix2 b j) := by
    by_cases h : t.val = 0
    · rw [if_pos ((first_iff t).mpr h), h]
      exact (pay1_apply _).trans Finset.sum_empty.symm
    · rw [if_neg fun hf => h ((first_iff t).mp hf), ha h]
  unfold next
  rw [pay2_apply, hstart]
  unfold sums
  rw [show 4096 * (t.val + 1) = 4096 * t.val + 4096 from by omega, Finset.sum_range_add, Finset.sum_range (n := 4096)]
  refine congrArg (_ + ·) (Finset.sum_congr rfl fun r _ => ?_)
  rw [(coord t).1]
  unfold part
  by_cases h : 4096 * t.val + r.val < 100000
  · rw [if_pos h, dif_pos h, fill_0 m c t d0 b r h, fill_2 m c t d2 r h]
    simp only [fill_1 m c t d1 r _ h]
  · rw [if_neg h, dif_neg h, mul_zero]

end Cert.KernelIdeal.Hand

end
-- ==== Proof.RunIdeal.lean ====
module

public import proofs.«01_k».proof.Proof.Blocks
public import proofs.«01_k».proof.Proof.Frame
public import Idealize.ShloMosaic.Lib.Pipeline.ValueKit.Geometry

/-! The kernel's run on idealized numbers: what every buffer of interest holds at its end. -/

@[expose] public section

noncomputable section

namespace Cert.KernelIdeal.Hand

open Cert.KernelIdeal Cert.KernelIdeal.Gen Cert.Whole
open Cert.KernelIdeal.Frame (found_0 found_1 found_2 body_row)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat ΦA)

local notation "𝕄" => MT nD τ sig Unit (Elt Ideal) ℕ (UR sig nD τ) ℕ

variable (m : (ℓ : Loc nD τ sig) → Buf (Elt Ideal) ℓ) (ρ : Dev nD → PrngReg)

/-- What the result's buffer holds once the last point has run. -/
def finished (c : Dev nD) : Vec Ideal S1024x1 .f32 := k0_pay3 (F := Ideal) (sums m c 25)

/-- The proof data: the arrays at their launch contents; after the body each input's buffer at the block it was
    fetched with, the result's at the finished value; between points the accumulator at the sums so far. -/
def dats (_ : Fin 1) (c : Dev nD) : Dat τ (Elt Ideal) Unit ℕ (UR sig nD τ) ℕ cfg0 c where
  A w := V m c (Pipeline.arrRef spec0 w)
  after := fun
    | 0 => fun t => win0_0.fill (grid0.coords t) (fun _ => 0#32) (iblk m c 0 t)
    | 1 => fun t => win0_1.fill (grid0.coords t) (fun _ => (0 : EReal)) (iblk m c 1 t)
    | 2 => fun t => win0_2.fill (grid0.coords t) (fun _ => (0 : EReal)) (iblk m c 2 t)
    | 3 => fun _ => finished m c
  Φ t := iprop((∃ f : Buf (Elt Ideal) ((c : Thread nD τ).loc cc0_scratch0), ⌜t.val ≠ 0 → f = sums m c t.val⌝
      ∗ ((c : Thread nD τ).loc cc0_scratch0) ↦{fullShare} f) ∗ ∃ r, prngReg c r)
  q _ := fullShare
  owed _ := 0

/-- The body stores the result at the last point and at no other. -/
theorem last_iff (t : Fin cfg0.N) : k0_cond2 (grid0.coords t) = 1#1 ↔ t.val = 24 :=
  (by decide : ∀ t : Fin grid0.N, k0_cond2 (grid0.coords t) = 1#1 ↔ t.val = 24) t

/-- What the body hands back for the result's buffer: at the last point the finished value, at every other point the
    buffer as it found it. -/
theorem result_back (c : Dev nD) (t : Fin cfg0.N) (d : Vec Ideal S1024x1 .f32) (a : Vec Ideal S1024x18 .f32) (ha : a = sums m c (t.val + 1)) :
    owns (c : Thread nD τ) (stage0_3 (cfg0.slots t 3)) fullShare (result (grid0.coords t) a ((dats m 0 c).before (3 : Fin 4) t d))
      ⊢ (match cfg0.idle (3 : Fin 4) (grid0.coords t) with
          | true =>
            match (cfg0.win 3).flush t with
            | false => iprop(∃ d, owns (c : Thread nD τ) ((cfg0.win 3).stage (cfg0.slots t 3)) fullShare ((dats m 0 c).before (3 : Fin 4) t d))
            | true => owns (c : Thread nD τ) ((cfg0.win 3).stage (cfg0.slots t 3)) fullShare ((dats m 0 c).after (3 : Fin 4) t)
          | false => owns (c : Thread nD τ) ((cfg0.win 3).stage (cfg0.slots t 3)) fullShare ((dats m 0 c).after (3 : Fin 4) t) : sProp 𝕄) := by
  by_cases h : t.val = 24
  · have hi : cfg0.idle (3 : Fin 4) (grid0.coords t) = false := by
      change (!(k0_cond2 (grid0.coords t) == 1#1)) = false
      rw [(last_iff t).mpr h]; rfl
    rw [hi]
    simp only
    unfold result
    rw [if_pos ((last_iff t).mpr h), ha, h]
    exact .rfl
  · have hc : ¬ k0_cond2 (grid0.coords t) = 1#1 := fun hc => h ((last_iff t).mp hc)
    have hi : cfg0.idle (3 : Fin 4) (grid0.coords t) = true := by
      change (!(k0_cond2 (grid0.coords t) == 1#1)) = true
      rw [beq_false_of_ne hc]; rfl
    have hf : (cfg0.win 3).flush t = false := by
      refine Bool.eq_false_iff.mpr fun hf => h ?_
      have := (flush0_3 t).mp hf
      have := t.isLt
      have : cfg0.N = 25 := N_0
      omega
    rw [hi, hf]
    simp only
    unfold result
    rw [if_neg hc]
    iintro H; iexists d; iexact H

/-- The body at every grid point keeps the proof data. -/
theorem body_obligation (c : Dev nD) :
    BodyObligationLoose (dats m 0 c) (defs₀ (F := Ideal)) Variants.none () Set.univ := fun t => by
  rw [bigSep_W0, bigSep_W0]
  rw [show (dats m 0 c).owesAt () t.succ = (dats m 0 c).owesAt () t.castSucc from rfl,
    show (dats m 0 c).Φ t.castSucc = iprop((∃ f : Buf (Elt Ideal) ((c : Thread nD τ).loc cc0_scratch0), ⌜t.val ≠ 0 → f = sums m c t.val⌝
      ∗ ((c : Thread nD τ).loc cc0_scratch0) ↦{fullShare} f) ∗ ∃ r, prngReg c r) from rfl,
    show (dats m 0 c).Φ t.succ = iprop((∃ f : Buf (Elt Ideal) ((c : Thread nD τ).loc cc0_scratch0), ⌜t.val + 1 ≠ 0 → f = sums m c (t.val + 1)⌝
      ∗ ((c : Thread nD τ).loc cc0_scratch0) ↦{fullShare} f) ∗ ∃ r, prngReg c r) from rfl, body_row]
  iintro ⟨⟨⟨%a, %ha, HS⟩, HP⟩, Ho, ⟨%d0, H0⟩, ⟨%d1, H1⟩, ⟨%d2, H2⟩, ⟨%d3, H3⟩⟩
  rw [found_0 m (dats m 0 c) rfl t d0, found_1 m (dats m 0 c) rfl t d1, found_2 m (dats m 0 c) rfl t d2]
  iapply (sound_body (F := Ideal) c Set.univ (grid0.coords t) _ _ _ _ _ _ _ _ (Memref.whole cc0_scratch0) (Memref.isWhole_whole _)
    (win0_0.fill (grid0.coords t) d0 (iblk m c 0 t)) (win0_1.fill (grid0.coords t) d1 (iblk m c 1 t))
    (win0_2.fill (grid0.coords t) d2 (iblk m c 2 t)) ((dats m 0 c).before (3 : Fin 4) t d3) a _)
  rw [owns_whole_eq]
  isplitl [H0 H1 H2 H3 HS]
  · isplitl [H0]; · iexact H0
    isplitl [H1]; · iexact H1
    isplitl [H2]; · iexact H2
    isplitl [H3]; · iexact H3
    iexists a; isplitr; · ipureintro; rfl
    iexact HS
  rw [owns_whole_eq]
  iintro ⟨H0, H1, H2, H3, ⟨%a', %ha', HS⟩⟩
  have hn := next_eq m c t d0 d1 d2 a ha
  isplitl [HS HP]
  · isplitl [HS]
    · iexists a'
      isplitr
      · ipureintro; intro _; exact ha'.trans hn
      iexact HS
    iexact HP
  isplitl [Ho]; · iexact Ho
  isplitl [H0]
  · iexists d0
    change _ ⊢ owns (c : Thread nD τ) (stage0_0 (cfg0.slots t 0)) fullShare (win0_0.fill (grid0.coords t) d0 (win0_0.cut (grid0.coords t) (win0_0.fill (grid0.coords t) _ (iblk m c 0 t))))
    rw [win0_0.cut_fill]
  isplitl [H1]
  · iexists d1
    change _ ⊢ owns (c : Thread nD τ) (stage0_1 (cfg0.slots t 1)) fullShare (win0_1.fill (grid0.coords t) d1 (win0_1.cut (grid0.coords t) (win0_1.fill (grid0.coords t) _ (iblk m c 1 t))))
    rw [win0_1.cut_fill]
  isplitl [H2]
  · iexists d2
    change _ ⊢ owns (c : Thread nD τ) (stage0_2 (cfg0.slots t 2)) fullShare (win0_2.fill (grid0.coords t) d2 (win0_2.cut (grid0.coords t) (win0_2.fill (grid0.coords t) _ (iblk m c 2 t))))
    rw [win0_2.cut_fill]
  iapply (result_back m c t d3 _ hn)
  iexact H3

/-- The kernel's result array at the end: the finished value, written once, after the last point. -/
theorem array_3 (c : Dev nD) : (dats m 0 c).arrAt (3 : Fin 4) cfg0.N = finished m c :=
  (dats m 0 c).arrAt_eq_of_after_last 3 (⟨24, by decide⟩ : Fin grid0.N) (by decide +kernel) (finished m c) fun j => by
    change finished m c _ = finished m c _
    exact congrArg (finished m c) (funext fun a => Fin.ext rfl)

/-- The program's result: the finished value with the bias of everything added to every sample. -/
def answer (c : Dev nD) : Vec Ideal S1024x1 .f32 :=
  addf (F := Ideal) (φ := .f32) (finished m c) (broadcastInDim S1024x1 ![] bcast_S_S1024x1 (m ((c : Thread nD τ).loc main_arg3)))

/-- The two lines after the kernel leave the program's result at `answer`. -/
theorem tail_result (c : Dev nD) :
    Pipeline.afterTail₀ cfgs (dats m) 0 (V0 m) [hostOps1] c main_v0 = answer m c := by
  unfold Pipeline.afterTail₀
  simp only [List.flatten_cons, List.flatten_nil, List.append_nil]
  have h0 : Pipeline.withArrays (cfgs 0).spec c (V0 m c) (fun w => (dats m 0 c).arrAt w (cfgs 0).N) (Proc.devRef .tc main_call0_v0) = finished m c :=
    (Pipeline.withArrays_arr (cfgs 0).spec (by decide) c (V0 m c) (fun w => (dats m 0 c).arrAt w (cfgs 0).N) (3 : Fin 4)).trans (array_3 m c)
  have h3 : Pipeline.withArrays (cfgs 0).spec c (V0 m c) (fun w => (dats m 0 c).arrAt w (cfgs 0).N) (Proc.devRef .tc main_arg3) = m ((c : Thread nD τ).loc main_arg3) :=
    Pipeline.withArrays_of_ne (cfgs 0).spec c (V0 m c) _ main_arg3 (by decide)
  unfold answer
  rw [← h0, ← h3]
  after_results
  rfl

/-- The kernel on idealized numbers: every fair execution from any memory ends with the result at `answer`, the four
    arguments as they were and every semaphore at zero. -/
theorem run : θ_run defs (onTc (τ := τ) (main (F := Ideal))) ⟨m, fun _ => 0, ρ⟩ (fun r => (∀ c : Dev nD,
      r.2.mem ((c.tc : Thread nD τ).loc main_v0) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_track cfgs (dats m) 0 launch0 defs₀ Variants.none m ρ main
    (body_obligation m) (fun c => (dats m 0 c).share_full fun _ => rfl) (fun _ _ => rfl) (V0 m) [hostOps1] sfx_sub sfx_fresh
    sfx_keeps (hmain m Variants.none) (fun _ _ => rfl)
    (fun c => by
      unfold ΦA
      rw [scopedRest0_eq]
      change _ ⊢ iprop((∃ f : Buf (Elt Ideal) ((c : Thread nD τ).loc cc0_scratch0), ⌜0 ≠ 0 → f = sums m c 0⌝
        ∗ ((c : Thread nD τ).loc cc0_scratch0) ↦{fullShare} f) ∗ ∃ r, prngReg c r)
      iintro ⟨⟨%f, HS⟩, HP⟩
      isplitl [HS]
      · iexists f; isplitr; · ipureintro; intro h; exact absurd rfl h
        iexact HS
      iexact HP)
    (fun c => by
      unfold ΦA
      rw [scopedRest0_eq]
      change iprop((∃ f : Buf (Elt Ideal) ((c : Thread nD τ).loc cc0_scratch0), ⌜25 ≠ 0 → f = sums m c 25⌝
        ∗ ((c : Thread nD τ).loc cc0_scratch0) ↦{fullShare} f) ∗ ∃ r, prngReg c r) ⊢ _
      iintro ⟨⟨%f, %_, HS⟩, HP⟩
      isplitl [HS]
      · iexists f; iexact HS
      iexact HP)
    _
    (fun r h => ⟨fun c => ⟨((h.1 c).2 main_v0 (Pipeline.mem_restRefs_of main_v0 (by decide) (by decide))).trans (tail_result m c),
      ((h.1 c).1 0).trans ((dats m 0 c).arrAt_in 0 rfl _),
      ((h.1 c).1 1).trans ((dats m 0 c).arrAt_in 1 rfl _),
      ((h.1 c).1 2).trans ((dats m 0 c).arrAt_in 2 rfl _),
      ((h.1 c).2 main_arg3 (Pipeline.mem_restRefs_of main_arg3 (by decide) (by decide))).trans (W_main_arg3 m (dats m) c)⟩, h.2⟩)

end Cert.KernelIdeal.Hand

end
-- ==== Proof.Reference.lean ====
module

public import proofs.«01_k».proof.Proof.Gen.ReferenceIdeal.Run
public import Idealize.ShloMosaic.Lib.IdealHost
public import Idealize.ShloMosaic.Lib.StackMember
public import Idealize.ShloMosaic.Lib.ValueIdx
public import Idealize.ShloMosaic.Lib.Quiescent

/-! What the reference computes: for every sample, the linear term and half the difference of the two second-order sums. -/

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open scoped BigOperators

variable (X : Vec Ideal S1024x100000 .i32) (E : Vec Ideal S100000x16 .f32) (B : Vec Ideal S100000x1 .f32) (G : Vec Ideal S_ .f32)

/-- Which features a sample has, as numbers: one where the input is positive, zero elsewhere. -/
def flags : Vec Ideal S1024x100000 .f32 :=
  uitofp (F := Ideal) .f32 (cmpi .sgt X (broadcastInDim S1024x100000 ![] bcast_S_S1024x100000 (constantI S_ 32 0#32)))

/-- The sum of a sample's embeddings. -/
def gathered : Vec Ideal S1024x16 .f32 :=
  Host.dotGeneral (F := Ideal) (φ₁ := .f32) (φ₂ := .f32) dot_S1024x100000_S100000x16_S1024x16_1_0_0_1_n_n none (flags X) E

/-- The square of every embedding's length. -/
def lengths : Vec Ideal S100000 .f32 :=
  Host.reduceAdd (F := Ideal) (φ := .f32) (mulf (F := Ideal) (φ := .f32) E E) (constant S_ .f32 0x00000000#32) reducesTo_S100000x16_S100000_d1 h_S_

/-- Half the difference of the squared length of the sum and the sum of the squared lengths. -/
def second : Vec Ideal S1024 .f32 :=
  mulf (F := Ideal) (φ := .f32) (broadcastInDim S1024 ![] bcast_S_S1024 (constant (F := Ideal) S_ .f32 0x3F000000#32))
    (subf (F := Ideal) (φ := .f32)
      (Host.reduceAdd (F := Ideal) (φ := .f32) (mulf (F := Ideal) (φ := .f32) (gathered X E) (gathered X E)) (constant S_ .f32 0x00000000#32) reducesTo_S1024x16_S1024_d1 h_S_)
      (Host.dotGeneral (F := Ideal) (φ₁ := .f32) (φ₂ := .f32) dot_S1024x100000_S100000_S1024_1_0_0_n_n_n none (flags X) (lengths E)))

/-- The reference's result as a function of its arguments. -/
def value : Vec Ideal S1024x1 .f32 :=
  addf (F := Ideal) (φ := .f32)
    (addf (F := Ideal) (φ := .f32) (broadcastInDim S1024x1 ![] bcast_S_S1024x1 G)
      (Host.dotGeneral (F := Ideal) (φ₁ := .f32) (φ₂ := .f32) dot_S1024x100000_S100000x1_S1024x1_1_0_0_1_n_n none (flags X) B))
    (broadcastInDim S1024x1 ![0] bcast_S1024_S1024x1_0 (second X E))

/-- A flag reads the comparison of the input with zero. -/
theorem flags_apply (b : Fin 1024) (v : Fin 100000) :
    flags X (ix2 b v) = FloatOps.uitofp (F := Ideal) .f32 (IntOp.cmpi .sgt (X (ix2 b v)) 0#32) := rfl

/-- The sum of a sample's embeddings, component by component. -/
theorem gathered_apply (b : Fin 1024) (k : Fin 16) : gathered X E (ix2 b k) = ∑ v : Fin 100000, flags X (ix2 b v) * E (ix2 v k) :=
  StackMember.dotGeneral_plain_apply _ _ _ _ _

/-- The sum of a sample's biases. -/
theorem biases_apply (b : Fin 1024) :
    Host.dotGeneral (F := Ideal) (φ₁ := .f32) (φ₂ := .f32) dot_S1024x100000_S100000x1_S1024x1_1_0_0_1_n_n none (flags X) B (ix2 b 0)
      = ∑ v : Fin 100000, flags X (ix2 b v) * B (ix2 v 0) :=
  StackMember.dotGeneral_plain_apply _ _ _ _ _

/-- The sum of an array's squares along its rows of sixteen, started at zero. -/
theorem squares_apply {n : ℕ} (A : Vec Ideal ⟨2, ![n, 16]⟩ .f32) (h' : Shape.ReducesTo ⟨2, ![n, 16]⟩ [1] ⟨1, ![n]⟩)
    (h : Shape.Reduces ⟨2, ![n, 16]⟩ [1] ⟨1, ![n]⟩) (r : Fin n) :
    Host.reduceAdd (F := Ideal) (φ := .f32) (mulf (F := Ideal) (φ := .f32) A A) (constant S_ .f32 0x00000000#32) h' h_S_ (ix1 r)
      = ∑ k : Fin 16, A (ix2 r k) * A (ix2 r k) := by
  rw [hostReduceAdd_apply, Ideal.hostReduceAdd_single h' h]
  refine (congrArg₂ (· + ·) Ideal.ofBits_zero_f32 (Finset.sum_congr rfl fun k _ => ?_)).trans (zero_add _)
  have e : h.lift (ix1 r) k = ix2 r k := by
    funext a; apply Fin.ext
    match a with
    | ⟨0, _⟩ => rfl
    | ⟨1, _⟩ => rfl
  rw [e]; rfl

/-- The weighted sum of a one-axis array's entries. -/
theorem weighted_apply (L : Vec Ideal S100000 .f32) (b : Fin 1024) :
    Host.dotGeneral (F := Ideal) (φ₁ := .f32) (φ₂ := .f32) dot_S1024x100000_S100000_S1024_1_0_0_n_n_n none (flags X) L (ix1 b)
      = ∑ v : Fin 100000, flags X (ix2 b v) * L (ix1 v) := by
  let D := dot_S1024x100000_S100000_S1024_1_0_0_n_n_n
  have hr : D.contr.rank = 1 := rfl
  have hs : D.contr.size ⟨0, by rw [hr]; exact Nat.one_pos⟩ = 100000 := rfl
  refine (Ideal.dotGeneral_apply D none _ _ _ _).trans ?_
  rw [← Equiv.sum_comp (contrEquiv1 D 100000 hr hs).symm]
  refine Finset.sum_congr rfl fun k _ => ?_
  have hk := contrEquiv1_symm_val D 100000 hr hs k
  have el : D.lhsIdx (ix1 b) ((contrEquiv1 D 100000 hr hs).symm k) = ix2 b k := by
    funext a; apply Fin.ext
    match a with
    | ⟨0, _⟩ => rfl
    | ⟨1, _⟩ => exact hk
  have er : D.rhsIdx (ix1 b) ((contrEquiv1 D 100000 hr hs).symm k) = ix1 k := by
    funext a; apply Fin.ext
    match a with
    | ⟨0, _⟩ => exact hk
  rw [el, er]

/-- The reference's result for one sample. -/
theorem value_apply (b : Fin 1024) :
    value X E B G (ix2 b 0) = (G ix0 + ∑ v : Fin 100000, flags X (ix2 b v) * B (ix2 v 0))
      + Ideal.ofBits .f32 0x3F000000#32
        * ((∑ k : Fin 16, (∑ v : Fin 100000, flags X (ix2 b v) * E (ix2 v k)) * (∑ v : Fin 100000, flags X (ix2 b v) * E (ix2 v k)))
          - ∑ v : Fin 100000, flags X (ix2 b v) * ∑ k : Fin 16, E (ix2 v k) * E (ix2 v k)) := by
  have hsq := squares_apply (gathered X E) reducesTo_S1024x16_S1024_d1 (by decide) b
  simp only [gathered_apply] at hsq
  have hw := weighted_apply X (lengths E) b
  have hl : ∀ v : Fin 100000, lengths E (ix1 v) = ∑ k : Fin 16, E (ix2 v k) * E (ix2 v k) :=
    fun v => squares_apply E reducesTo_S100000x16_S100000_d1 (by decide) v
  simp only [hl] at hw
  have hG : broadcastInDim S1024x1 ![] bcast_S_S1024x1 G (ix2 b 0) = G ix0 := broadcastInDim_scalar_apply _ _ _
  have hH : broadcastInDim S1024 ![] bcast_S_S1024 (constant (F := Ideal) S_ .f32 0x3F000000#32) (ix1 b) = Ideal.ofBits .f32 0x3F000000#32 :=
    broadcastInDim_scalar_apply _ _ _
  have hS : broadcastInDim S1024x1 ![0] bcast_S1024_S1024x1_0 (second X E) (ix2 b 0) = second X E (ix1 b) := by
    unfold broadcastInDim
    refine congrArg (second X E) (funext fun a => Fin.ext ?_)
    match a with
    | ⟨0, _⟩ => rfl
  exact congrArg₂ (· + ·) (congrArg₂ (· + ·) hG (biases_apply X B b))
    (hS.trans (congrArg₂ (· * ·) hH (congrArg₂ (· - ·) hsq hw)))

variable (m : (ℓ : Loc nD τ sig) → Buf (Elt Ideal) ℓ) (ρ : Dev nD → PrngReg)

/-- The reference runs, ends with `value` of its arguments, leaves the arguments as they were and every counter at zero. -/
theorem run : θ_run defs (onTc (τ := τ) (main (F := Ideal))) ⟨m, fun _ => 0, ρ⟩ (fun r => (∀ c : Dev nD,
      r.2.mem ((c.tc : Thread nD τ).loc main_v16) = value (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨h, sem_eq_zero_of_no_sems (by decide) _⟩) (Value.run m ρ)

end Cert.ReferenceIdeal.Hand

end
-- ==== Proof.Equation.lean ====
module

public import proofs.«01_k».proof.Proof.RunIdeal
public import proofs.«01_k».proof.Proof.Reference
public import proofs.«01_k».proof.Proof.Gen.Pre_indicator
public import Idealize.ShloMosaic.Lib.ReduceAll

/-! The kernel's result is the reference's wherever every input is zero or one. -/

@[expose] public section

noncomputable section

namespace Cert.Equation

open Cert.KernelIdeal Cert.KernelIdeal.Gen Cert.KernelIdeal.Hand
open Idealize.ShloMosaic Idealize.ShloMosaic.TcCoe
open Idealize.ShloMosaic.ValueIdx
open scoped BigOperators

/-- The precondition says that every input is zero or one. -/
theorem zero_or_one (X : Vec Ideal S1024x100000 .i32) (E : Vec Ideal S100000x16 .f32) (B : Vec Ideal S100000x1 .f32) (G : Vec Ideal S_ .f32)
    (h : Cert.Pre_indicator.fn (F := Ideal) X E B G = fun _ => 1#1) (i : S1024x100000.Idx) : X i = 0#32 ∨ X i = 1#32 := by
  have : Subsingleton S_.Idx := ⟨fun a b => funext fun k => k.elim0⟩
  exact (IntOp.ori_eq_one.mp (Host.reduce_andi_all _ _ _ _ ix0 (congrFun h ix0) i)).imp IntOp.cmpi_eq.mp IntOp.cmpi_eq.mp

/-- A zero or a one, read as a number, is the flag of its being positive. -/
theorem number_eq_flag (x : BitVec 32) (h : x = 0#32 ∨ x = 1#32) :
    FloatOps.sitofp (F := Ideal) .f32 x = FloatOps.uitofp (F := Ideal) .f32 (IntOp.cmpi .sgt x 0#32) := by
  show (((x.toInt : ℝ) : EReal)) = ((((IntOp.cmpi .sgt x 0#32).toNat : ℕ) : ℝ) : EReal)
  rcases h with rfl | rfl
  · rw [show (0#32).toInt = 0 from by decide, show (IntOp.cmpi .sgt 0#32 0#32).toNat = 0 from by decide]; norm_num
  · rw [show (1#32).toInt = 1 from by decide, show (IntOp.cmpi .sgt 1#32 0#32).toNat = 1 from by decide]; norm_num

variable (m : (ℓ : Loc nD τ sig) → Buf (Elt Ideal) ℓ)

/-- The finished accumulator sums over the whole table: the last block's rows past its end add nothing. -/
theorem sums_all (c : Dev nD) (b : Fin 1024) (j : Fin 18)
    (h : ∀ i, (m ((c : Thread nD τ).loc main_arg0) : Vec Ideal S1024x100000 .i32) i = 0#32 ∨ (m ((c : Thread nD τ).loc main_arg0) : Vec Ideal S1024x100000 .i32) i = 1#32) :
    sums m c 25 (ix2 b j) = ∑ v : Fin 100000, Cert.ReferenceIdeal.Hand.flags (m ((c : Thread nD τ).loc main_arg0)) (ix2 b v)
      * weight (fun k => (m ((c : Thread nD τ).loc main_arg1) : Vec Ideal S100000x16 .f32) (ix2 v k)) ((m ((c : Thread nD τ).loc main_arg2) : Vec Ideal S100000x1 .f32) (ix2 v 0)) j := by
  show ∑ v ∈ Finset.range (100000 + 2400), part (m ((c : Thread nD τ).loc main_arg0)) (m ((c : Thread nD τ).loc main_arg1)) (m ((c : Thread nD τ).loc main_arg2)) b j v = _
  rw [Finset.sum_range_add, Finset.sum_eq_zero (s := Finset.range 2400) fun v _ => dif_neg (by omega), add_zero, Finset.sum_range]
  refine Finset.sum_congr rfl fun v _ => (dif_pos v.isLt).trans ?_
  exact congrArg (· * _) (number_eq_flag _ (h _))

/-- The two results are one array: the kernel adds the global bias last, the reference first. -/
theorem answer_eq (c : Dev nD)
    (h : ∀ i, (m ((c : Thread nD τ).loc main_arg0) : Vec Ideal S1024x100000 .i32) i = 0#32 ∨ (m ((c : Thread nD τ).loc main_arg0) : Vec Ideal S1024x100000 .i32) i = 1#32) :
    answer m c = Cert.ReferenceIdeal.Hand.value (m ((c : Thread nD τ).loc main_arg0)) (m ((c : Thread nD τ).loc main_arg1))
      (m ((c : Thread nD τ).loc main_arg2)) (m ((c : Thread nD τ).loc main_arg3)) := by
  funext y
  obtain ⟨b, rfl⟩ : ∃ b : Fin 1024, y = ix2 b 0 := ⟨y 0, (eq_ix2 y).trans (congrArg (ix2 (y 0)) (Subsingleton.elim (α := Fin 1) (y 1) 0))⟩
  refine Eq.trans ?_ (Cert.ReferenceIdeal.Hand.value_apply _ _ _ _ b).symm
  have hG : broadcastInDim S1024x1 ![] bcast_S_S1024x1 (m ((c : Thread nD τ).loc main_arg3) : Vec Ideal S_ .f32) (ix2 b 0)
      = (m ((c : Thread nD τ).loc main_arg3) : Vec Ideal S_ .f32) ix0 := broadcastInDim_scalar_apply _ _ _
  have hF := pay3_apply (sums m c 25) b
  simp only [sums_all m c b _ h] at hF
  refine (congrArg₂ (· + ·) hF hG).trans ?_
  rw [add_comm, ← add_assoc]
  have hE : ∀ (k : Fin 16) (e : Fin 16 → EReal) (z : EReal), weight e z (k.castLE (by decide)) = e k := fun k e z => dif_pos k.isLt
  simp only [hE]
  rfl

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_indicator
public import proofs.«01_k».proof.Proof.SameProgram
public import proofs.«01_k».proof.Proof.RunIdeal
public import proofs.«01_k».proof.Proof.Reference
public import proofs.«01_k».proof.Proof.Equation

/-! The certificate's claims, put together from the modules that prove them. -/

@[expose] public section

noncomputable section

namespace Cert.Proof

open Idealize.ShloMosaic Idealize.SL.Sem

/-- The kernel in extended reals runs, keeps its arguments and leaves every counter at zero. -/
theorem frame_ideal : Cert.quiescent_KernelIdeal := fun m g _ =>
  (θ_run Cert.KernelIdeal.defs _ _).mono (fun _ h => ⟨fun c => (h.1 c).2, h.2⟩) (Cert.KernelIdeal.Hand.run m g)

/-- The reference in extended reals runs, keeps its arguments and leaves every counter at zero. -/
theorem frame_reference : Cert.quiescent_ReferenceIdeal := fun m g _ =>
  (θ_run Cert.ReferenceIdeal.defs _ _).mono (fun _ h => ⟨fun c => (h.1 c).2, h.2⟩) (Cert.ReferenceIdeal.Hand.run m g)

/-- On inputs of zeros and ones the kernel and the reference end with the same array of extended reals. -/
theorem same_values : Cert.algebraic_KernelIdeal_ReferenceIdeal_pre_indicator := fun m g m' g' hpre hargs => by
  refine ⟨fun c => Cert.KernelIdeal.Hand.answer m c,
    (θ_run Cert.KernelIdeal.defs _ _).mono (fun _ h => h.1) (Cert.KernelIdeal.Hand.run m g),
    (θ_run Cert.ReferenceIdeal.defs _ _).mono (fun _ h c => ⟨(h.1 c).1.trans ?_, (h.1 c).2⟩) (Cert.ReferenceIdeal.Hand.run m' g')⟩
  obtain ⟨h0, h1, h2, h3⟩ := hargs c
  rw [h0, h1, h2, h3]
  exact (Cert.Equation.answer_eq m c (Cert.Equation.zero_or_one _ _ _ _ (hpre c))).symm

/-- All of the certificate's claims. -/
theorem claim : Cert.Claim :=
  ⟨Cert.Kernel.Gen.facts, Cert.KernelIdeal.Gen.facts, Cert.ReferenceIdeal.Gen.facts, Cert.Pre_indicator.Gen.facts,
    Cert.SameProgram.frame_kernel,
    frame_ideal, fun m g _ => frame_ideal m g trivial,
    frame_reference, fun m g _ => frame_reference m g trivial,
    trivial, same_values⟩

end Cert.Proof

end
